-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.HalfStatement Cert.KernelIdeal.S560x128
  ∧ IdealRules.bf16_pair.Statement Cert.KernelIdeal.S32x256 Cert.KernelIdeal.S16x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x8960 : Shape := ⟨3, ![24, 1, 8960]⟩
abbrev S8960x10176 : Shape := ⟨2, ![8960, 10176]⟩
abbrev S560x20352 : Shape := ⟨2, ![560, 20352]⟩
abbrev S_ : Shape := ⟨0, ![]⟩
abbrev S24x8960 : Shape := ⟨2, ![24, 8960]⟩
abbrev S24x8960x1 : Shape := ⟨3, ![24, 8960, 1]⟩
abbrev S24x8960x2 : Shape := ⟨3, ![24, 8960, 2]⟩
abbrev S24x17920 : Shape := ⟨2, ![24, 17920]⟩
abbrev S48x17920 : Shape := ⟨2, ![48, 17920]⟩
abbrev S10176x8960 : Shape := ⟨2, ![10176, 8960]⟩
abbrev S1x1 : Shape := ⟨2, ![1, 1]⟩
abbrev S24x20352 : Shape := ⟨2, ![24, 20352]⟩
abbrev S256x8960 : Shape := ⟨2, ![256, 8960]⟩
abbrev S560x512 : Shape := ⟨2, ![560, 512]⟩
abbrev S24x512 : Shape := ⟨2, ![24, 512]⟩
abbrev S256x256 : Shape := ⟨2, ![256, 256]⟩
abbrev S560x256 : Shape := ⟨2, ![560, 256]⟩
abbrev S560x128 : Shape := ⟨2, ![560, 128]⟩
abbrev S48x256 : Shape := ⟨2, ![48, 256]⟩
abbrev S256x1x256 : Shape := ⟨3, ![256, 1, 256]⟩
abbrev S256x2x256 : Shape := ⟨3, ![256, 2, 256]⟩
abbrev S512x256 : Shape := ⟨2, ![512, 256]⟩
abbrev S16x256 : Shape := ⟨2, ![16, 256]⟩
abbrev S32x256 : Shape := ⟨2, ![32, 256]⟩
abbrev S16x1x2x256 : Shape := ⟨4, ![16, 1, 2, 256]⟩
abbrev S16x16x2x256 : Shape := ⟨4, ![16, 16, 2, 256]⟩
abbrev S48x512 : Shape := ⟨2, ![48, 512]⟩
abbrev S24x128 : Shape := ⟨2, ![24, 128]⟩
abbrev S24x256 : Shape := ⟨2, ![24, 256]⟩

abbrev nBuf : Space → Nat
  | .hbm => 19
  | .vmem => 7
  | .smem => 1
  | _ => 0

abbrev bufTy : (tb : Table) → Fin (tcTables nBuf tb) → BufTy
  | .hbm, ⟨0, _⟩ => ⟨S24x1x8960, .bf16⟩
  | .hbm, ⟨1, _⟩ => ⟨S8960x10176, .i8⟩
  | .hbm, ⟨2, _⟩ => ⟨S560x20352, .fp8e4m3⟩
  | .hbm, ⟨3, _⟩ => ⟨S_, .f32⟩
  | .hbm, ⟨4, _⟩ => ⟨S24x8960, .bf16⟩
  | .hbm, ⟨5, _⟩ => ⟨S_, .bf16⟩
  | .hbm, ⟨6, _⟩ => ⟨S24x8960, .bf16⟩
  | .hbm, ⟨7, _⟩ => ⟨S24x8960x1, .bf16⟩
  | .hbm, ⟨8, _⟩ => ⟨S24x8960x1, .bf16⟩
  | .hbm, ⟨9, _⟩ => ⟨S24x8960x2, .bf16⟩
  | .hbm, ⟨10, _⟩ => ⟨S24x17920, .bf16⟩
  | .hbm, ⟨11, _⟩ => ⟨S24x8960x1, .bf16⟩
  | .hbm, ⟨12, _⟩ => ⟨S24x8960x1, .bf16⟩
  | .hbm, ⟨13, _⟩ => ⟨S24x8960x2, .bf16⟩
  | .hbm, ⟨14, _⟩ => ⟨S24x17920, .bf16⟩
  | .hbm, ⟨15, _⟩ => ⟨S48x17920, .bf16⟩
  | .hbm, ⟨16, _⟩ => ⟨S10176x8960, .i8⟩
  | .hbm, ⟨17, _⟩ => ⟨S1x1, .f32⟩
  | .hbm, ⟨18, _⟩ => ⟨S24x20352, .bf16⟩
  | .local _ .vmem, ⟨0, _⟩ => ⟨S48x17920, .bf16⟩
  | .local _ .vmem, ⟨1, _⟩ => ⟨S256x8960, .i8⟩
  | .local _ .vmem, ⟨2, _⟩ => ⟨S256x8960, .i8⟩
  | .local _ .vmem, ⟨3, _⟩ => ⟨S560x512, .fp8e4m3⟩
  | .local _ .vmem, ⟨4, _⟩ => ⟨S560x512, .fp8e4m3⟩
  | .local _ .vmem, ⟨5, _⟩ => ⟨S24x512, .bf16⟩
  | .local _ .vmem, ⟨6, _⟩ => ⟨S24x512, .bf16⟩
  | .local _ .smem, ⟨0, _⟩ => ⟨S1x1, .f32⟩
  | _, _ => ⟨S24x1x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x17920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8960 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S24x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S24x1x8960 : Shape := ⟨3, ![24, 1, 8960]⟩
abbrev S8960x10176 : Shape := ⟨2, ![8960, 10176]⟩
abbrev S560x20352 : Shape := ⟨2, ![560, 20352]⟩
abbrev S_ : Shape := ⟨0, ![]⟩
abbrev S24x8960 : Shape := ⟨2, ![24, 8960]⟩
abbrev S1x1 : Shape := ⟨2, ![1, 1]⟩
abbrev S24x20352 : Shape := ⟨2, ![24, 20352]⟩
abbrev S560x10176x2 : Shape := ⟨3, ![560, 10176, 2]⟩
abbrev S560x10176x1 : Shape := ⟨3, ![560, 10176, 1]⟩
abbrev S560x10176 : Shape := ⟨2, ![560, 10176]⟩
abbrev S560x16x10176 : Shape := ⟨3, ![560, 16, 10176]⟩
abbrev S560x1x10176 : Shape := ⟨3, ![560, 1, 10176]⟩
abbrev S24x10176 : Shape := ⟨2, ![24, 10176]⟩
abbrev S24x10176x1 : Shape := ⟨3, ![24, 10176, 1]⟩
abbrev S24x10176x2 : Shape := ⟨3, ![24, 10176, 2]⟩

abbrev nBuf : Space → Nat
  | .hbm => 7
  | .vmem => 4
  | .smem => 1
  | _ => 0

abbrev bufTy : (tb : Table) → Fin (tcTables nBuf tb) → BufTy
  | .hbm, ⟨0, _⟩ => ⟨S24x1x8960, .bf16⟩
  | .hbm, ⟨1, _⟩ => ⟨S8960x10176, .i8⟩
  | .hbm, ⟨2, _⟩ => ⟨S560x20352, .fp8e4m3⟩
  | .hbm, ⟨3, _⟩ => ⟨S_, .f32⟩
  | .hbm, ⟨4, _⟩ => ⟨S24x8960, .bf16⟩
  | .hbm, ⟨5, _⟩ => ⟨S1x1, .f32⟩
  | .hbm, ⟨6, _⟩ => ⟨S24x20352, .bf16⟩
  | .local _ .vmem, ⟨0, _⟩ => ⟨S24x8960, .bf16⟩
  | .local _ .vmem, ⟨1, _⟩ => ⟨S8960x10176, .i8⟩
  | .local _ .vmem, ⟨2, _⟩ => ⟨S560x20352, .fp8e4m3⟩
  | .local _ .vmem, ⟨3, _⟩ => ⟨S24x20352, .bf16⟩
  | .local _ .smem, ⟨0, _⟩ => ⟨S1x1, .f32⟩
  | _, _ => ⟨S24x1x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x10176 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S560x20352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x20352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelBody.lean ====
/-
  What one run of the kernel's body does to its five staging memrefs, for `Kernel`, at any float values.
  The four inputs end as they were; the output's memref ends with the one store of the body, whose payload
  the run itself finds.
-/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 4000000 in
/-- The body's triple: on whole staging memrefs, the inputs at `x0`, `x1`, `x2`, `x3` and the output at anything, the
    body runs to the continuation with the inputs as they were and the output's memref with the pieces `L4` written.
    The pieces are the witness the run finds. -/
noncomputable def bodyRun (c : Dev nD) (i : grid0.Coords) (arg1 : Memref sig .tc .vmem S48x17920 .bf16) (harg1 : arg1.IsWhole) (arg2 : Memref sig .tc .vmem S256x8960 .i8) (harg2 : arg2.IsWhole) (arg3 : Memref sig .tc .vmem S560x512 .fp8e4m3) (harg3 : arg3.IsWhole) (arg4 : Memref sig .tc .smem S1x1 .f32) (harg4 : arg4.IsWhole) (arg5 : Memref sig .tc .vmem S24x512 .bf16) (harg5 : arg5.IsWhole)
    (x0 : Vec F S48x17920 .bf16) (x1 : Vec F S256x8960 .i8) (x2 : Vec F S560x512 .fp8e4m3) (x3 : Vec F S1x1 .f32) :
    { L4 : List (View.Piece (Elt F) S24x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0_nvfp4_linear i arg1 harg1 arg2 harg2 arg3 harg3 arg4 harg4 arg5 harg5) K } := by
  refine ⟨?_, fun E K => ?run⟩
  case run =>
    simp only [cc0_nvfp4_linear_eq_skeleton]; unfold cc0_nvfp4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KernelFrame.lean ====
/-
  The frame of `Kernel`, at any float values: the launch terminates and leaves the four argument arrays as they were.
  The last block of the weights, of the scales and of the result overhangs its array, so what a fetch leaves in a
  staging buffer past the array's end is arbitrary. The result's window is forgotten here: what the body stores past the
  end depends on those words, and the frame says nothing of the result.
-/
module

public import proofs.«01_k».proof.Proof.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S48x17920 .bf16 := win0_0.stage (cfg0.slots t 0)
abbrev ms0_1 (t : Fin cfg0.N) : Memref sig .tc .vmem S256x8960 .i8 := win0_1.stage (cfg0.slots t 1)
abbrev ms0_2 (t : Fin cfg0.N) : Memref sig .tc .vmem S560x512 .fp8e4m3 := win0_2.stage (cfg0.slots t 2)
abbrev ms0_3 (t : Fin cfg0.N) : Memref sig .tc .smem S1x1 .f32 := win0_3.stage (cfg0.slots t 3)
abbrev ms0_4 (t : Fin cfg0.N) : Memref sig .tc .vmem S24x512 .bf16 := win0_4.stage (cfg0.slots t 4)

/-! ## What the inputs' buffers hold -/

/-- The weights' buffer at point `t`, its part past the array's end at `d`. -/
def wFill (c : Dev nD) (t : Fin cfg0.N) (d : S256x8960.Idx → Elt F .i8) : S256x8960.Idx → Elt F .i8 :=
  win0_1.fill (grid0.coords t) d (iblk m c 1 t)
/-- The scales' buffer at point `t`, its part past the array's end at `d`. -/
def sFill (c : Dev nD) (t : Fin cfg0.N) (d : S560x512.Idx → Elt F .fp8e4m3) : S560x512.Idx → Elt F .fp8e4m3 :=
  win0_2.fill (grid0.coords t) d (iblk m c 2 t)

/-- The proof data: the arrays as the region finds them; after the body the inputs' buffers at their blocks (past an
    array's end at a word nothing reads) and the result's at `o`. -/
def dats (o : (c : Dev nD) → Fin cfg0.N → S24x512.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => wFill m c t (fun _ => 0#8)
    | ⟨2, _⟩ => sFill m c t (fun _ => Scalar.ofBits .fp8e4m3 0#8)
    | ⟨3, _⟩ => iblk m c 3 t
    | ⟨4, _⟩ => o c t
  Φ _ := Pipeline.ΦA spec0 c
  q _ := fullShare
  owed _ := 0

variable (o : (c : Dev nD) → Fin cfg0.N → S24x512.Idx → Elt F .bf16)

/-- The arrays are as the region finds them. -/
theorem A_eq (c : Dev nD) (w : Fin cfg0.W) : (dats m o 0 c).A w = V m c (Pipeline.arrRef spec0 w) := by
  dsimp only [dats]
/-- What a window's buffer holds after the body. -/
theorem after0_0 (c : Dev nD) (t : Fin cfg0.N) : (dats m o 0 c).after 0 t = iblk m c 0 t := by dsimp only [dats]
/-- What a window's buffer holds after the body. -/
theorem after0_1 (c : Dev nD) (t : Fin cfg0.N) : (dats m o 0 c).after 1 t = wFill m c t (fun _ => 0#8) := by dsimp only [dats]
/-- What a window's buffer holds after the body. -/
theorem after0_2 (c : Dev nD) (t : Fin cfg0.N) :
    (dats m o 0 c).after 2 t = sFill m c t (fun _ => Scalar.ofBits .fp8e4m3 0#8) := by dsimp only [dats]
/-- What a window's buffer holds after the body. -/
theorem after0_3 (c : Dev nD) (t : Fin cfg0.N) : (dats m o 0 c).after 3 t = iblk m c 3 t := by dsimp only [dats]
/-- What a window's buffer holds after the body. -/
theorem after0_4 (c : Dev nD) (t : Fin cfg0.N) : (dats m o 0 c).after 4 t = o c t := by dsimp only [dats]

/-- What the body finds in the inputs' buffers. -/
theorem before0_0 (c : Dev nD) (t : Fin cfg0.N) (d) : (dats m o 0 c).before 0 t d = iblk m c 0 t :=
  before0_0_of m (dats m o 0 c) (A_eq m o c 0) (after0_0 m o c) t d
/-- What the body finds in this input's buffer. -/
theorem before0_1 (c : Dev nD) (t : Fin cfg0.N) (d) : (dats m o 0 c).before 1 t d = wFill m c t d := by
  unfold Dat.before; rw [if_pos (fetch0_1 t)]; rfl
/-- What the body finds in this input's buffer. -/
theorem before0_2 (c : Dev nD) (t : Fin cfg0.N) (d) : (dats m o 0 c).before 2 t d = sFill m c t d := by
  unfold Dat.before; rw [if_pos (fetch0_2 t)]; rfl
/-- What the body finds in this input's buffer. -/
theorem before0_3 (c : Dev nD) (t : Fin cfg0.N) (d) : (dats m o 0 c).before 3 t d = iblk m c 3 t :=
  before0_3_of m (dats m o 0 c) (A_eq m o c 3) (after0_3 m o c) t d

/-- A filled buffer read back on the part inside the array is the block, whatever filled it. -/
theorem cut_wFill (c : Dev nD) (t : Fin cfg0.N) (d) : win0_1.cut (grid0.coords t) (wFill m c t d) = iblk m c 1 t :=
  win0_1.cut_fill _ _ _
/-- The same for the scales. -/
theorem cut_sFill (c : Dev nD) (t : Fin cfg0.N) (d) : win0_2.cut (grid0.coords t) (sFill m c t d) = iblk m c 2 t :=
  win0_2.cut_fill _ _ _

/-! ## The body at a point -/

/-- What the body stores at point `t` when the buffers hold the blocks and `d1`, `d2` past the arrays' ends: the run's
    pieces. -/
def pieces (c : Dev nD) (t : Fin cfg0.N) (d1 : S256x8960.Idx → Elt F .i8) (d2 : S560x512.Idx → Elt F .fp8e4m3) :
    List (View.Piece (Elt F) S24x512 .bf16) :=
  (bodyRun c (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) (ms0_3 t) (hstage0_3 ((cfg0.slots t 3).cast nbuf0_3))
    (ms0_4 t) (hstage0_4 ((cfg0.slots t 4).cast nbuf0_4))
    (iblk m c 0 t) (wFill m c t d1) (sFill m c t d2) (iblk m c 3 t)).1

/-- The body at a point, for any continuation: the inputs' buffers are handed back as found and the result's with the
    run's pieces written. -/
theorem body_at (c : Dev nD) (t : Fin cfg0.N) (d1 : S256x8960.Idx → Elt F .i8) (d2 : S560x512.Idx → Elt F .fp8e4m3) (K : PUnit → sProp 𝕄) :
    iprop(owns (c : Thread nD τ) (ms0_0 t) fullShare (iblk m c 0 t) ∗ owns (c : Thread nD τ) (ms0_1 t) fullShare (wFill m c t d1)
        ∗ owns (c : Thread nD τ) (ms0_2 t) fullShare (sFill m c t d2) ∗ owns (c : Thread nD τ) (ms0_3 t) fullShare (iblk m c 3 t)
        ∗ (∃ d, owns (c : Thread nD τ) (ms0_4 t) fullShare d)
        ∗ (iprop(owns (c : Thread nD τ) (ms0_0 t) fullShare (iblk m c 0 t) ∗ owns (c : Thread nD τ) (ms0_1 t) fullShare (wFill m c t d1)
            ∗ owns (c : Thread nD τ) (ms0_2 t) fullShare (sFill m c t d2) ∗ owns (c : Thread nD τ) (ms0_3 t) fullShare (iblk m c 3 t)
            ∗ (∃ f, (ms0_4 t).view.loc (c : Thread nD τ) ↦[(ms0_4 t).view.set]{fullShare} (ms0_4 t).view.writes (Elt F) f (pieces m c t d1 d2))) -∗ K ⟨⟩))
      ⊢ wp frame (wpE (defs₀ (F := F)) Variants.none c none) Set.univ (bodyAt0 t) K :=
  (bodyRun c (grid0.coords t) (ms0_0 t) _ (ms0_1 t) _ (ms0_2 t) _ (ms0_3 t) _ (ms0_4 t) _
    (iblk m c 0 t) (wFill m c t d1) (sFill m c t d2) (iblk m c 3 t)).2 Set.univ K

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-! ## The frame, the result forgotten -/

/-- The result's window is forgotten, no other. -/
def forgets0 : Fin 5 → Bool := fun w => w = 4

/-- What the body is called with at point `t` and what it returns, the result's buffer at anything. -/
def fPre (c : Dev nD) (t : Fin cfg0.N) : sProp 𝕄 :=
  iprop((dats m o 0 c).Φ t.castSucc ∗ (dats m o 0 c).owesAt () t.castSucc
    ∗ (∃ d, owns (c : Thread nD τ) (ms0_0 t) fullShare ((dats m o 0 c).before 0 t d))
    ∗ (∃ d, owns (c : Thread nD τ) (ms0_1 t) fullShare ((dats m o 0 c).before 1 t d))
    ∗ (∃ d, owns (c : Thread nD τ) (ms0_2 t) fullShare ((dats m o 0 c).before 2 t d))
    ∗ (∃ d, owns (c : Thread nD τ) (ms0_3 t) fullShare ((dats m o 0 c).before 3 t d))
    ∗ (∃ d, owns (c : Thread nD τ) (ms0_4 t) fullShare d))
/-- … and what it returns. -/
def fPost (c : Dev nD) (t : Fin cfg0.N) : sProp 𝕄 :=
  iprop((dats m o 0 c).Φ t.succ ∗ (dats m o 0 c).owesAt () t.succ
    ∗ owns (c : Thread nD τ) (ms0_0 t) fullShare ((dats m o 0 c).after 0 t)
    ∗ (∃ d, owns (c : Thread nD τ) (ms0_1 t) fullShare (win0_1.fill (grid0.coords t) d (win0_1.cut (grid0.coords t) ((dats m o 0 c).after 1 t))))
    ∗ (∃ d, owns (c : Thread nD τ) (ms0_2 t) fullShare (win0_2.fill (grid0.coords t) d (win0_2.cut (grid0.coords t) ((dats m o 0 c).after 2 t))))
    ∗ owns (c : Thread nD τ) (ms0_3 t) fullShare ((dats m o 0 c).after 3 t)
    ∗ (∃ d, owns (c : Thread nD τ) (ms0_4 t) fullShare d))

/-- The body at a point, nothing said of what it stores. -/
theorem f_sound (c : Dev nD) (t : Fin cfg0.N) :
    fPre m o c t ⊢ wp frame (wpE (defs₀ (F := F)) Variants.none c none) Set.univ (bodyAt0 t) (fun _ => fPost m o c t) := by
  unfold fPre fPost
  simp only [before0_0, before0_1, before0_2, before0_3]
  rw [show (dats m o 0 c).Φ t.succ = (dats m o 0 c).Φ t.castSucc from rfl,
    show (dats m o 0 c).owesAt () t.succ = (dats m o 0 c).owesAt () t.castSucc from rfl,
    after0_0, after0_1, after0_2, after0_3, cut_wFill, cut_sFill]
  iintro ⟨HΦ, Ho, ⟨%d0, H0⟩, ⟨%d1, H1⟩, ⟨%d2, H2⟩, ⟨%d3, H3⟩, H4⟩
  iapply (body_at m c t d1 d2 _)
  isplitl [H0]; · iexact H0
  isplitl [H1]; · iexact H1
  isplitl [H2]; · iexact H2
  isplitl [H3]; · iexact H3
  isplitl [H4]; · iexact H4
  iintro ⟨H0, H1, H2, H3, ⟨%e4, H4⟩⟩
  isplitl [HΦ]; · iexact HΦ
  isplitl [Ho]; · iexact Ho
  isplitl [H0]; · iexact H0
  isplitl [H1]; · iexists d1; iexact H1
  isplitl [H2]; · iexists d2; iexact H2
  isplitl [H3]; · iexact H3
  unfold owns; iexists _, _; isplitr; swap; · iexact H4
  ipureintro; rfl

/-- The library's body obligation with the result forgotten. -/
theorem f_obligation (c : Dev nD) :
    BodyObligationLoose (dats (F := F) m o 0 c) (defs₀ (F := F)) Variants.none () Set.univ forgets0 := fun t => by
  rw [bigSep_W0, bigSep_W0, defs₀_row]
  exact triple_restated (f_sound m o c t) rfl .rfl fun _ => .rfl

/-- Any output contents: the frame names none. -/
abbrev noOut : (c : Dev nD) → Fin cfg0.N → S24x512.Idx → Elt F .bf16 := fun _ _ _ => Scalar.ofBits .bf16 0#16

set_option backward.isDefEq.respectTransparency.types false in
/-- The launch with the result forgotten: it terminates with every semaphore counter at zero. -/
theorem f_run :
    θ_run defs (onTc (τ := τ) (main (F := F))) (s₀ m ρ)
      (fun r => Pipeline.RDat.FramePost (cfgs 0) (fun c => (dats m noOut 0 c).toRForget forgets0) (V m) r ∧ r.2.sem = fun _ => 0) :=
  Pipeline.θ_run_frame_forget (Q' := _) cfgs (dats m noOut) (0 : Fin 1) launch0 defs₀ Variants.none forgets0 m ρ main
    (hbody := f_obligation m noOut) (hshare := fun c => (dats m noOut 0 c).share_full fun _ => rfl)
    (howed := fun _ _ => rfl) (V := V m) (hmain := hmain m Variants.none) (hA := A_eq m noOut) (hΦ := fun _ _ => rfl)

/-- The frame: the four argument arrays end as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m noOut c 2).trans (V_main_arg2 m c)),
      ((h.1 c).2 main_arg3 (Pipeline.mem_restRefs_of main_arg3 (by decide) (by decide))).trans (V_main_arg3 m c)⟩, h.2⟩) (f_run m ρ)

end Cert.Kernel.Hand

end
-- ==== Proof.IdealBody.lean ====
/-
  What one run of the kernel's body does to its five staging memrefs, for `KernelIdeal`, at any float values.
  The four inputs end as they were; the output's memref ends with the one store of the body, whose payload
  the run itself finds.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body's triple: on whole staging memrefs, the inputs at `x0`, `x1`, `x2`, `x3` and the output at anything, the
    body runs to the continuation with the inputs as they were and the output's memref with the pieces `L4` written.
    The pieces are the witness the run finds. -/
noncomputable def bodyRun (c : Dev nD) (i : grid0.Coords) (arg1 : Memref sig .tc .vmem S48x17920 .bf16) (harg1 : arg1.IsWhole) (arg2 : Memref sig .tc .vmem S256x8960 .i8) (harg2 : arg2.IsWhole) (arg3 : Memref sig .tc .vmem S560x512 .fp8e4m3) (harg3 : arg3.IsWhole) (arg4 : Memref sig .tc .smem S1x1 .f32) (harg4 : arg4.IsWhole) (arg5 : Memref sig .tc .vmem S24x512 .bf16) (harg5 : arg5.IsWhole)
    (x0 : Vec F S48x17920 .bf16) (x1 : Vec F S256x8960 .i8) (x2 : Vec F S560x512 .fp8e4m3) (x3 : Vec F S1x1 .f32) :
    { L4 : List (View.Piece (Elt F) S24x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0_nvfp4_linear i arg1 harg1 arg2 harg2 arg3 harg3 arg4 harg4 arg5 harg5) K } := by
  refine ⟨?_, fun E K => ?run⟩
  case run =>
    simp only [cc0_nvfp4_linear_eq_skeleton]; unfold cc0_nvfp4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.IdealFrame.lean ====
/-
  The frame of `KernelIdeal`, at any float values: the launch terminates and leaves the four argument arrays as they were.
  The last block of the weights, of the scales and of the result overhangs its array, so what a fetch leaves in a
  staging buffer past the array's end is arbitrary. The result's window is forgotten here: what the body stores past the
  end depends on those words, and the frame says nothing of the result.
-/
module

public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S48x17920 .bf16 := win0_0.stage (cfg0.slots t 0)
abbrev ms0_1 (t : Fin cfg0.N) : Memref sig .tc .vmem S256x8960 .i8 := win0_1.stage (cfg0.slots t 1)
abbrev ms0_2 (t : Fin cfg0.N) : Memref sig .tc .vmem S560x512 .fp8e4m3 := win0_2.stage (cfg0.slots t 2)
abbrev ms0_3 (t : Fin cfg0.N) : Memref sig .tc .smem S1x1 .f32 := win0_3.stage (cfg0.slots t 3)
abbrev ms0_4 (t : Fin cfg0.N) : Memref sig .tc .vmem S24x512 .bf16 := win0_4.stage (cfg0.slots t 4)

/-! ## What the inputs' buffers hold -/

/-- The weights' buffer at point `t`, its part past the array's end at `d`. -/
def wFill (c : Dev nD) (t : Fin cfg0.N) (d : S256x8960.Idx → Elt F .i8) : S256x8960.Idx → Elt F .i8 :=
  win0_1.fill (grid0.coords t) d (iblk m c 1 t)
/-- The scales' buffer at point `t`, its part past the array's end at `d`. -/
def sFill (c : Dev nD) (t : Fin cfg0.N) (d : S560x512.Idx → Elt F .fp8e4m3) : S560x512.Idx → Elt F .fp8e4m3 :=
  win0_2.fill (grid0.coords t) d (iblk m c 2 t)

/-- The proof data: the arrays as the region finds them; after the body the inputs' buffers at their blocks (past an
    array's end at a word nothing reads) and the result's at `o`. -/
def dats (o : (c : Dev nD) → Fin cfg0.N → S24x512.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => wFill m c t (fun _ => 0#8)
    | ⟨2, _⟩ => sFill m c t (fun _ => Scalar.ofBits .fp8e4m3 0#8)
    | ⟨3, _⟩ => iblk m c 3 t
    | ⟨4, _⟩ => o c t
  Φ _ := Pipeline.ΦA spec0 c
  q _ := fullShare
  owed _ := 0

variable (o : (c : Dev nD) → Fin cfg0.N → S24x512.Idx → Elt F .bf16)

/-- The arrays are as the region finds them. -/
theorem A_eq (c : Dev nD) (w : Fin cfg0.W) : (dats m o 0 c).A w = V m c (Pipeline.arrRef spec0 w) := by
  dsimp only [dats]
/-- What a window's buffer holds after the body. -/
theorem after0_0 (c : Dev nD) (t : Fin cfg0.N) : (dats m o 0 c).after 0 t = iblk m c 0 t := by dsimp only [dats]
/-- What a window's buffer holds after the body. -/
theorem after0_1 (c : Dev nD) (t : Fin cfg0.N) : (dats m o 0 c).after 1 t = wFill m c t (fun _ => 0#8) := by dsimp only [dats]
/-- What a window's buffer holds after the body. -/
theorem after0_2 (c : Dev nD) (t : Fin cfg0.N) :
    (dats m o 0 c).after 2 t = sFill m c t (fun _ => Scalar.ofBits .fp8e4m3 0#8) := by dsimp only [dats]
/-- What a window's buffer holds after the body. -/
theorem after0_3 (c : Dev nD) (t : Fin cfg0.N) : (dats m o 0 c).after 3 t = iblk m c 3 t := by dsimp only [dats]
/-- What a window's buffer holds after the body. -/
theorem after0_4 (c : Dev nD) (t : Fin cfg0.N) : (dats m o 0 c).after 4 t = o c t := by dsimp only [dats]

/-- What the body finds in the inputs' buffers. -/
theorem before0_0 (c : Dev nD) (t : Fin cfg0.N) (d) : (dats m o 0 c).before 0 t d = iblk m c 0 t :=
  before0_0_of m (dats m o 0 c) (A_eq m o c 0) (after0_0 m o c) t d
/-- What the body finds in this input's buffer. -/
theorem before0_1 (c : Dev nD) (t : Fin cfg0.N) (d) : (dats m o 0 c).before 1 t d = wFill m c t d := by
  unfold Dat.before; rw [if_pos (fetch0_1 t)]; rfl
/-- What the body finds in this input's buffer. -/
theorem before0_2 (c : Dev nD) (t : Fin cfg0.N) (d) : (dats m o 0 c).before 2 t d = sFill m c t d := by
  unfold Dat.before; rw [if_pos (fetch0_2 t)]; rfl
/-- What the body finds in this input's buffer. -/
theorem before0_3 (c : Dev nD) (t : Fin cfg0.N) (d) : (dats m o 0 c).before 3 t d = iblk m c 3 t :=
  before0_3_of m (dats m o 0 c) (A_eq m o c 3) (after0_3 m o c) t d

/-- A filled buffer read back on the part inside the array is the block, whatever filled it. -/
theorem cut_wFill (c : Dev nD) (t : Fin cfg0.N) (d) : win0_1.cut (grid0.coords t) (wFill m c t d) = iblk m c 1 t :=
  win0_1.cut_fill _ _ _
/-- The same for the scales. -/
theorem cut_sFill (c : Dev nD) (t : Fin cfg0.N) (d) : win0_2.cut (grid0.coords t) (sFill m c t d) = iblk m c 2 t :=
  win0_2.cut_fill _ _ _

/-! ## The body at a point -/

/-- What the body stores at point `t` when the buffers hold the blocks and `d1`, `d2` past the arrays' ends: the run's
    pieces. -/
def pieces (c : Dev nD) (t : Fin cfg0.N) (d1 : S256x8960.Idx → Elt F .i8) (d2 : S560x512.Idx → Elt F .fp8e4m3) :
    List (View.Piece (Elt F) S24x512 .bf16) :=
  (bodyRun c (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) (ms0_3 t) (hstage0_3 ((cfg0.slots t 3).cast nbuf0_3))
    (ms0_4 t) (hstage0_4 ((cfg0.slots t 4).cast nbuf0_4))
    (iblk m c 0 t) (wFill m c t d1) (sFill m c t d2) (iblk m c 3 t)).1

/-- The body at a point, for any continuation: the inputs' buffers are handed back as found and the result's with the
    run's pieces written. -/
theorem body_at (c : Dev nD) (t : Fin cfg0.N) (d1 : S256x8960.Idx → Elt F .i8) (d2 : S560x512.Idx → Elt F .fp8e4m3) (K : PUnit → sProp 𝕄) :
    iprop(owns (c : Thread nD τ) (ms0_0 t) fullShare (iblk m c 0 t) ∗ owns (c : Thread nD τ) (ms0_1 t) fullShare (wFill m c t d1)
        ∗ owns (c : Thread nD τ) (ms0_2 t) fullShare (sFill m c t d2) ∗ owns (c : Thread nD τ) (ms0_3 t) fullShare (iblk m c 3 t)
        ∗ (∃ d, owns (c : Thread nD τ) (ms0_4 t) fullShare d)
        ∗ (iprop(owns (c : Thread nD τ) (ms0_0 t) fullShare (iblk m c 0 t) ∗ owns (c : Thread nD τ) (ms0_1 t) fullShare (wFill m c t d1)
            ∗ owns (c : Thread nD τ) (ms0_2 t) fullShare (sFill m c t d2) ∗ owns (c : Thread nD τ) (ms0_3 t) fullShare (iblk m c 3 t)
            ∗ (∃ f, (ms0_4 t).view.loc (c : Thread nD τ) ↦[(ms0_4 t).view.set]{fullShare} (ms0_4 t).view.writes (Elt F) f (pieces m c t d1 d2))) -∗ K ⟨⟩))
      ⊢ wp frame (wpE (defs₀ (F := F)) Variants.none c none) Set.univ (bodyAt0 t) K :=
  (bodyRun c (grid0.coords t) (ms0_0 t) _ (ms0_1 t) _ (ms0_2 t) _ (ms0_3 t) _ (ms0_4 t) _
    (iblk m c 0 t) (wFill m c t d1) (sFill m c t d2) (iblk m c 3 t)).2 Set.univ K

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-! ## The frame, the result forgotten -/

/-- The result's window is forgotten, no other. -/
def forgets0 : Fin 5 → Bool := fun w => w = 4

/-- What the body is called with at point `t` and what it returns, the result's buffer at anything. -/
def fPre (c : Dev nD) (t : Fin cfg0.N) : sProp 𝕄 :=
  iprop((dats m o 0 c).Φ t.castSucc ∗ (dats m o 0 c).owesAt () t.castSucc
    ∗ (∃ d, owns (c : Thread nD τ) (ms0_0 t) fullShare ((dats m o 0 c).before 0 t d))
    ∗ (∃ d, owns (c : Thread nD τ) (ms0_1 t) fullShare ((dats m o 0 c).before 1 t d))
    ∗ (∃ d, owns (c : Thread nD τ) (ms0_2 t) fullShare ((dats m o 0 c).before 2 t d))
    ∗ (∃ d, owns (c : Thread nD τ) (ms0_3 t) fullShare ((dats m o 0 c).before 3 t d))
    ∗ (∃ d, owns (c : Thread nD τ) (ms0_4 t) fullShare d))
/-- … and what it returns. -/
def fPost (c : Dev nD) (t : Fin cfg0.N) : sProp 𝕄 :=
  iprop((dats m o 0 c).Φ t.succ ∗ (dats m o 0 c).owesAt () t.succ
    ∗ owns (c : Thread nD τ) (ms0_0 t) fullShare ((dats m o 0 c).after 0 t)
    ∗ (∃ d, owns (c : Thread nD τ) (ms0_1 t) fullShare (win0_1.fill (grid0.coords t) d (win0_1.cut (grid0.coords t) ((dats m o 0 c).after 1 t))))
    ∗ (∃ d, owns (c : Thread nD τ) (ms0_2 t) fullShare (win0_2.fill (grid0.coords t) d (win0_2.cut (grid0.coords t) ((dats m o 0 c).after 2 t))))
    ∗ owns (c : Thread nD τ) (ms0_3 t) fullShare ((dats m o 0 c).after 3 t)
    ∗ (∃ d, owns (c : Thread nD τ) (ms0_4 t) fullShare d))

/-- The body at a point, nothing said of what it stores. -/
theorem f_sound (c : Dev nD) (t : Fin cfg0.N) :
    fPre m o c t ⊢ wp frame (wpE (defs₀ (F := F)) Variants.none c none) Set.univ (bodyAt0 t) (fun _ => fPost m o c t) := by
  unfold fPre fPost
  simp only [before0_0, before0_1, before0_2, before0_3]
  rw [show (dats m o 0 c).Φ t.succ = (dats m o 0 c).Φ t.castSucc from rfl,
    show (dats m o 0 c).owesAt () t.succ = (dats m o 0 c).owesAt () t.castSucc from rfl,
    after0_0, after0_1, after0_2, after0_3, cut_wFill, cut_sFill]
  iintro ⟨HΦ, Ho, ⟨%d0, H0⟩, ⟨%d1, H1⟩, ⟨%d2, H2⟩, ⟨%d3, H3⟩, H4⟩
  iapply (body_at m c t d1 d2 _)
  isplitl [H0]; · iexact H0
  isplitl [H1]; · iexact H1
  isplitl [H2]; · iexact H2
  isplitl [H3]; · iexact H3
  isplitl [H4]; · iexact H4
  iintro ⟨H0, H1, H2, H3, ⟨%e4, H4⟩⟩
  isplitl [HΦ]; · iexact HΦ
  isplitl [Ho]; · iexact Ho
  isplitl [H0]; · iexact H0
  isplitl [H1]; · iexists d1; iexact H1
  isplitl [H2]; · iexists d2; iexact H2
  isplitl [H3]; · iexact H3
  unfold owns; iexists _, _; isplitr; swap; · iexact H4
  ipureintro; rfl

/-- The library's body obligation with the result forgotten. -/
theorem f_obligation (c : Dev nD) :
    BodyObligationLoose (dats (F := F) m o 0 c) (defs₀ (F := F)) Variants.none () Set.univ forgets0 := fun t => by
  rw [bigSep_W0, bigSep_W0, defs₀_row]
  exact triple_restated (f_sound m o c t) rfl .rfl fun _ => .rfl

/-- Any output contents: the frame names none. -/
abbrev noOut : (c : Dev nD) → Fin cfg0.N → S24x512.Idx → Elt F .bf16 := fun _ _ _ => Scalar.ofBits .bf16 0#16

set_option backward.isDefEq.respectTransparency.types false in
/-- The launch with the result forgotten: it terminates with every semaphore counter at zero. -/
theorem f_run :
    θ_run defs (onTc (τ := τ) (main (F := F))) (s₀ m ρ)
      (fun r => Pipeline.RDat.FramePost (cfgs 0) (fun c => (dats m noOut 0 c).toRForget forgets0) (V m) r ∧ r.2.sem = fun _ => 0) :=
  Pipeline.θ_run_frame_forget (Q' := _) cfgs (dats m noOut) (0 : Fin 1) launch0 defs₀ Variants.none forgets0 m ρ main
    (hbody := f_obligation m noOut) (hshare := fun c => (dats m noOut 0 c).share_full fun _ => rfl)
    (howed := fun _ _ => rfl) (V := V m) (hmain := hmain m Variants.none) (hA := A_eq m noOut) (hΦ := fun _ _ => rfl)

/-- The frame: the four argument arrays end as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m noOut c 2).trans (V_main_arg2 m c)),
      ((h.1 c).2 main_arg3 (Pipeline.mem_restRefs_of main_arg3 (by decide) (by decide))).trans (V_main_arg3 m c)⟩, h.2⟩) (f_run m ρ)

end Cert.KernelIdeal.Hand

end
-- ==== Proof.Spec.lean ====
/-
  The decoding of a code and one entry of the result, as both programs are shown to compute them.
-/
module
public import Idealize.ShloMosaic.Lib.Pointwise
@[expose] public section
/-! The value both programs compute: every entry of the result as a formula over the arguments. -/
set_option maxRecDepth 16384
noncomputable section
namespace Cert.Hand
open Idealize.ShloMosaic

/-- The four-bit code in the low (`h = 0`) or high half of a byte. -/
def nib (h : ℕ) (w : BitVec 8) : BitVec 32 :=
  if h < 1 then IntOp.andi (BitVec.setWidth 32 w) 15#32 else IntOp.shrsi ArithUnit.vector (BitVec.setWidth 32 w) 4#32

/-- The sixteen bits of the bfloat16 that holds the number a four-bit code stands for. -/
def bits16 (c : BitVec 32) : BitVec 16 :=
  BitVec.setWidth 16
    (IntOp.ori
      (Scalar.select (IntOp.cmpi .sgt (IntOp.shrsi ArithUnit.vector (IntOp.andi c 7#32) 1#32) 0#32)
        (IntOp.ori
          (IntOp.shli ArithUnit.vector (IntOp.addi (IntOp.shrsi ArithUnit.vector (IntOp.andi c 7#32) 1#32) 126#32) 7#32)
          (IntOp.shli ArithUnit.vector (IntOp.andi (IntOp.andi c 7#32) 1#32) 6#32))
        (IntOp.muli (IntOp.andi (IntOp.andi c 7#32) 1#32) 16128#32))
      (IntOp.shli ArithUnit.vector (IntOp.andi c 8#32) 12#32))

/-- The thirty-two bits of the float32 that holds it. -/
def bits32 (c : BitVec 32) : BitVec 32 :=
  IntOp.ori
    (Scalar.select (IntOp.cmpi .sgt (IntOp.andi c 7#32) 1#32)
      (IntOp.addi (IntOp.shli ArithUnit.vector (IntOp.andi c 7#32) 22#32) 1056964608#32)
      (IntOp.muli (IntOp.andi c 7#32) 1056964608#32))
    (IntOp.shli ArithUnit.vector (IntOp.andi c 8#32) 28#32)

/-- The number a four-bit code stands for. -/
def dec (c : BitVec 32) : EReal := Ideal.ofBits .bf16 (bits16 c)

/-- A half of a byte is one of the sixteen codes. -/
theorem nib_lt (h : ℕ) (w : BitVec 8) : ∃ k : Fin 16, nib h w = BitVec.ofNat 32 k := by
  unfold nib
  split
  · exact (by decide +kernel : ∀ w : BitVec 8, ∃ k : Fin 16,
      IntOp.andi (BitVec.setWidth 32 w) 15#32 = BitVec.ofNat 32 k) w
  · exact (by decide +kernel : ∀ w : BitVec 8, ∃ k : Fin 16,
      IntOp.shrsi ArithUnit.vector (BitVec.setWidth 32 w) 4#32 = BitVec.ofNat 32 k) w

/-- The float32's bits are the bfloat16's followed by sixteen zeros. -/
theorem bits_widen (k : Fin 16) : bits32 (BitVec.ofNat 32 k) = bits16 (BitVec.ofNat 32 k) ++ (0#16 : BitVec 16) :=
  (by decide +kernel : ∀ k : Fin 16, bits32 (BitVec.ofNat 32 k) = bits16 (BitVec.ofNat 32 k) ++ (0#16 : BitVec 16)) k

/-- A bfloat16 is the float32 of the same upper half. -/
theorem ieee_widen (b : BitVec 16) : Ideal.ieee 8 23 ((b ++ 0#16 : BitVec 32)) = Ideal.ieee 8 7 b := by
  have h1 : (b ++ 0#16 : BitVec 32).extractLsb' (8 + 23) 1 = b.extractLsb' (8 + 7) 1 := by ext i hi; simp; grind
  have h2 : (b ++ 0#16 : BitVec 32).extractLsb' 23 8 = b.extractLsb' 7 8 := by ext i hi; simp; grind
  have h3 : ((b ++ 0#16 : BitVec 32).extractLsb' 0 23).toNat = (b.extractLsb' 0 7).toNat * 65536 := by
    have h0 : (b ++ 0#16 : BitVec 32).toNat = b.toNat * 65536 := by
      rw [BitVec.toNat_append, BitVec.toNat_ofNat, Nat.shiftLeft_eq]; simp
    rw [BitVec.extractLsb'_toNat, BitVec.extractLsb'_toNat, h0]; simp; omega
  unfold Ideal.ieee
  simp only [h1, h2, h3]
  generalize (b.extractLsb' (8 + 7) 1 == 1#1) = n
  generalize (b.extractLsb' 7 8).toNat = e
  generalize (b.extractLsb' 0 7).toNat = f
  have hz : f * 65536 = 0 ↔ f = 0 := by omega
  simp only [hz]
  split_ifs <;> first | rfl | skip
  all_goals
    congr 1
    push_cast
    try rw [zpow_sub₀ (by norm_num), zpow_sub₀ (a := (2 : ℝ)) (by norm_num) _ (7 : ℤ)]
    norm_num
    try ring

/-- Both ways of reading a code give the same number. -/
theorem dec32_nib (h : ℕ) (w : BitVec 8) : Ideal.ofBits .f32 (bits32 (nib h w)) = dec (nib h w) := by
  obtain ⟨k, hk⟩ := nib_lt h w
  rw [hk, bits_widen]
  exact ieee_widen _

/-- One entry of the result: the row of `X` against the decoded and scaled column of `W`, times `g`. -/
def refAt (X : Fin 24 → Fin 8960 → EReal) (W : Fin 8960 → Fin 10176 → BitVec 8) (S : Fin 560 → Fin 20352 → EReal)
    (g : EReal) (i : Fin 24) (n : Fin 20352) : EReal :=
  (∑ p : Fin 8960, X i p * (dec (nib (n.val % 2) (W p ⟨n.val / 2, by omega⟩)) * S ⟨p.val / 16, by omega⟩ n)) * g

end Cert.Hand
end
-- ==== Proof.Chunk.lean ====
/-
  One chunk of the contraction: a product, the accumulator over the chunks, and how a sum over 35 chunks is written out.
-/
module
public import proofs.«01_k».proof.Proof.IdealFrame
public import Idealize.ShloMosaic.Lib.Pipeline.ValueKit
public import proofs.«01_k».proof.Proof.Spec
@[expose] public section
set_option maxRecDepth 16384
noncomputable section
namespace Cert.KernelIdeal.Hand
open Cert.KernelIdeal Cert.KernelIdeal.Gen Cert.Hand
open Idealize.ShloMosaic Idealize.ShloMosaic.TcCoe Idealize.SL.Sem
open Idealize.ShloMosaic.Pipeline (Dat)
/-- One product of chunk `kc`: an entry of the spread row against a decoded and scaled weight. -/
def prodAt (lo hi : FVec Ideal S560x256 .bf16) (w : Vec Ideal S256x8960 .i8) (x : Vec Ideal S48x17920 .bf16)
    (r : Fin 48) (j : Fin 256) (kc : Fin 35) (q : Fin 512) : EReal :=
  x (ix2 r ⟨512 * kc.val + q.val, by omega⟩) *
    (Ideal.ofBits .f32 (bits32 (nib (q.val % 2) (w (ix2 j ⟨256 * kc.val + q.val / 2, by omega⟩)))) *
      if (q.val / 32 * 2 + q.val % 2) % 2 = 0 then lo (ix2 ⟨16 * kc.val + (q.val / 32 * 2 + q.val % 2) / 2, by omega⟩ j)
      else hi (ix2 ⟨16 * kc.val + (q.val / 32 * 2 + q.val % 2) / 2, by omega⟩ j))
/-- The accumulator, scaled by the global factor. -/
def accAt (lo hi : FVec Ideal S560x256 .bf16) (w : Vec Ideal S256x8960 .i8) (x : Vec Ideal S48x17920 .bf16) (g : EReal)
    (r : Fin 48) (j : Fin 256) : EReal :=
  (∑ kc : Fin 35, ∑ q : Fin 512, prodAt lo hi w x r j kc q) * g

/-- A sum over the chunks written out. -/
theorem sum35 (f : Fin 35 → EReal) : ∑ k, f k = f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ + f ⟨16, by decide⟩ + f ⟨17, by decide⟩ + f ⟨18, by decide⟩ + f ⟨19, by decide⟩ + f ⟨20, by decide⟩ + f ⟨21, by decide⟩ + f ⟨22, by decide⟩ + f ⟨23, by decide⟩ + f ⟨24, by decide⟩ + f ⟨25, by decide⟩ + f ⟨26, by decide⟩ + f ⟨27, by decide⟩ + f ⟨28, by decide⟩ + f ⟨29, by decide⟩ + f ⟨30, by decide⟩ + f ⟨31, by decide⟩ + f ⟨32, by decide⟩ + f ⟨33, by decide⟩ + f ⟨34, by decide⟩ := by
  rw [Finset.sum_fin_eq_sum_range]
  simp only [Finset.sum_range_succ, Finset.sum_range_zero, Nat.reduceLT, ↓reduceDIte, zero_add]
/-- Two sums agree when their last terms and what comes before do. -/
theorem step {a a' : EReal} {f f' : Fin 512 → EReal} (h : a = a') (h' : ∀ q, f q = f' q) :
    a + ∑ q, f q = a' + ∑ q, f' q := by rw [h, funext h']

end Cert.KernelIdeal.Hand
end
-- ==== Proof.Onehot.lean ====
/-
  The permutation matrices' entries and the sums against them: each selects one row or column.
-/
module
public import Idealize.ShloMosaic.Lib.Pointwise
public import Idealize.ShloMosaic.Lib.WordCmp
@[expose] public section
noncomputable section
namespace Cert.Hand
open Idealize.ShloMosaic

/-- The row that column `c` of the permutation matrix selects: the even rows first, then the odd ones. -/
def permRow (c : ℕ) : ℕ := if c < 128 then 2 * c else 2 * c - 255

/-- The words of the permutation matrix's column spell `permRow`. -/
theorem perm_word (c : Fin 256) :
    (Scalar.select (IntOp.cmpi .slt (BitVec.ofNat 32 c.val) 128#32) (IntOp.muli 2#32 (BitVec.ofNat 32 c.val))
      (IntOp.subi (IntOp.muli 2#32 (BitVec.ofNat 32 c.val)) 255#32) : BitVec 32) = BitVec.ofNat 32 (permRow c.val) :=
  (by decide +kernel : ∀ c : Fin 256, (Scalar.select (IntOp.cmpi .slt (BitVec.ofNat 32 c.val) 128#32) (IntOp.muli 2#32 (BitVec.ofNat 32 c.val))
      (IntOp.subi (IntOp.muli 2#32 (BitVec.ofNat 32 c.val)) 255#32) : BitVec 32) = BitVec.ofNat 32 (permRow c.val)) c

/-- An entry of the permutation matrix, as the kernel forms it. -/
def entry (n c : ℕ) : EReal :=
  FloatOps.sitofp (F := Ideal) .f32 (BitVec.setWidth 32 (IntOp.cmpi .eq (BitVec.ofNat 32 n)
    (Scalar.select (IntOp.cmpi .slt (BitVec.ofNat 32 c) 128#32) (IntOp.muli 2#32 (BitVec.ofNat 32 c))
      (IntOp.subi (IntOp.muli 2#32 (BitVec.ofNat 32 c)) 255#32))))

/-- It is one at the selected row and zero elsewhere. -/
theorem entry_eq (n c : ℕ) (hn : n < 256) (hc : c < 256) : entry n c = if n = permRow c then 1 else 0 := by
  have hr : permRow c < 256 ∨ 256 ≤ permRow c ∧ permRow c < 512 := by unfold permRow; split <;> omega
  have hr' : permRow c < 2 ^ 32 := by omega
  unfold entry
  rw [perm_word ⟨c, hc⟩, WordCmp.cmpi_eq_ofNat (by omega) hr', WordCmp.ofBool_decide_eq_ite]
  split
  · change (((1#32 : BitVec 32).toInt : ℝ) : EReal) = 1
    norm_num
  · change (((0#32 : BitVec 32).toInt : ℝ) : EReal) = 0
    norm_num

/-- A sum of terms each times a selector, one of which selects, is that term. -/
theorem sum_select {N : ℕ} (f e : Fin N → EReal) (k : Fin N) (h1 : e k = 1) (h0 : ∀ x, x ≠ k → e x = 0) :
    ∑ x, f x * e x = f k := by
  rw [Finset.sum_eq_single k (fun x _ hx => by rw [h0 x hx, mul_zero]) (fun h => absurd (Finset.mem_univ k) h), h1, mul_one]

/-- A sum of terms each times a selector, none of which selects, is zero. -/
theorem sum_none {N : ℕ} (f e : Fin N → EReal) (h0 : ∀ x, e x = 0) : ∑ x, f x * e x = 0 :=
  Finset.sum_eq_zero fun x _ => by rw [h0 x, mul_zero]

/-- Rows through the matrix: column `c` of the product is the row `permRow c`. -/
theorem sum_rows (f : Fin 256 → EReal) (c : ℕ) (hc : c < 256) (k : Fin 256) (hk : k.val = permRow c) :
    ∑ x : Fin 256, f x * entry x.val c = f k :=
  sum_select f _ k (by rw [entry_eq _ _ k.isLt hc, if_pos hk]) fun x hx => by
    rw [entry_eq _ _ x.isLt hc, if_neg fun h => hx (Fin.ext (h.trans hk.symm))]

/-- Columns back through the transposed matrix: an even column comes from the first half. -/
theorem sum_cols_even (f f' : Fin 128 → EReal) (n : ℕ) (hn : n < 256) (k : Fin 128) (hk : n = 2 * k.val) :
    ∑ x : Fin 128, f x * entry n x.val + ∑ x : Fin 128, f' x * entry n (128 + x.val) = f k := by
  rw [sum_select f _ k, sum_none f', add_zero]
  · intro x
    rw [entry_eq _ _ hn (by omega), if_neg]; unfold permRow; rw [if_neg (by omega)]; omega
  · rw [entry_eq _ _ hn (by omega), if_pos]; unfold permRow; rw [if_pos (by omega)]; omega
  · intro x hx
    rw [entry_eq _ _ hn (by omega), if_neg]; unfold permRow; rw [if_pos (by omega)]
    intro h; exact hx (Fin.ext (by omega))

/-- An odd column comes from the second half. -/
theorem sum_cols_odd (f f' : Fin 128 → EReal) (n : ℕ) (hn : n < 256) (k : Fin 128) (hk : n = 2 * k.val + 1) :
    ∑ x : Fin 128, f x * entry n x.val + ∑ x : Fin 128, f' x * entry n (128 + x.val) = f' k := by
  rw [sum_none f, sum_select f' _ k, zero_add]
  · rw [entry_eq _ _ hn (by omega), if_pos]; unfold permRow; rw [if_neg (by omega)]; omega
  · intro x hx
    rw [entry_eq _ _ hn (by omega), if_neg]; unfold permRow; rw [if_neg (by omega)]
    intro h; exact hx (Fin.ext (by omega))
  · intro x
    rw [entry_eq _ _ hn (by omega), if_neg]; unfold permRow; rw [if_pos (by omega)]; omega

/-- The column mask: column `x` of block `i` lies inside the scales' array, so the select takes the loaded scale. -/
theorem mask_in (i x : ℕ) (h : 512 * i + x < 20352) (a b : EReal) :
    Scalar.select (IntOp.cmpi .slt (IntOp.addi (BitVec.ofNat 32 x) (Scalar.muli (Scalar.muli (BitVec.ofNat 32 i) 2#32) 256#32)) 20352#32) a b = a := by
  refine if_pos ?_
  have e : Scalar.muli (Scalar.muli (BitVec.ofNat 32 i) 2#32) 256#32 = BitVec.ofNat 32 (i * 2 * 256) :=
    (congrArg (fun z => Scalar.muli z 256#32) (WordCmp.muli_ofNat i 2)).trans (WordCmp.muli_ofNat (i * 2) 256)
  rw [e, WordCmp.addi_ofNat]
  exact (WordCmp.cmpi_slt_ofNat_eq_one_iff (by omega) (by omega)).2 (by omega)

end Cert.Hand
end
-- ==== Proof.Tile.lean ====
/-
  What one block of the kernel computes, as the accumulator of its chunks.
-/
module
public import proofs.«01_k».proof.Proof.IdealFrame
public import Idealize.ShloMosaic.Lib.Pipeline.ValueKit
public import proofs.«01_k».proof.Proof.Chunk
public import proofs.«01_k».proof.Proof.Onehot
@[expose] public section
set_option maxRecDepth 16384
noncomputable section
namespace Cert.KernelIdeal.Hand
open Cert.KernelIdeal Cert.KernelIdeal.Gen Cert.Hand
open Idealize.ShloMosaic Idealize.ShloMosaic.TcCoe Idealize.SL.Sem
open Idealize.ShloMosaic.Pipeline (Dat)

set_option maxHeartbeats 40000000 in
/-- What one block's body computes: entry `(a, n)` of the output block is the accumulator's entry of the packed column
    `n / 2`, in the upper rows for an even column and in the lower rows for an odd one. -/
theorem out_at (c : Dev nD) (i : grid0.Coords) (arg1 : Memref sig .tc .vmem S48x17920 .bf16) (harg1 : arg1.IsWhole) (arg2 : Memref sig .tc .vmem S256x8960 .i8) (harg2 : arg2.IsWhole) (arg3 : Memref sig .tc .vmem S560x512 .fp8e4m3) (harg3 : arg3.IsWhole) (arg4 : Memref sig .tc .smem S1x1 .f32) (harg4 : arg4.IsWhole) (arg5 : Memref sig .tc .vmem S24x512 .bf16) (harg5 : arg5.IsWhole)
    (x0 : Vec Ideal S48x17920 .bf16) (x1 : Vec Ideal S256x8960 .i8) (x2 : Vec Ideal S560x512 .fp8e4m3) (x3 : Vec Ideal S1x1 .f32) (a : Fin 24) (n : Fin 512) :
    View.canon (bodyRun c i arg1 harg1 arg2 harg2 arg3 harg3 arg4 harg4 arg5 harg5 x0 x1 x2 x3).1 (ix2 a n) =
      accAt (k0_pay6 i x2) (k0_pay7 i x2) x1 x0 (x3 (ix2 0 0)) ⟨24 * (n.val % 2) + a.val, by omega⟩ ⟨n.val / 2, by omega⟩ := by
  frame_out
  generalize k0_pay6 i x2 = lo
  generalize k0_pay7 i x2 = hi
  generalize ep : k0_pay108 (F := Ideal) _ _ _ _ _ _ _ = p
  have hp : ∀ (r : Fin 48) (j : Fin 256), p (ix2 r j) = accAt lo hi x1 x0 (x3 (ix2 0 0)) r j := by
    intro r j
    rw [← ep]
    clear ep
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
    unfold accAt
    refine congrArg (· * (x3 (ix2 0 0) : EReal)) ?_
    refine Eq.trans ?_ (sum35 _).symm
    iterate 34
      refine step ?_ (fun q => ?_)
      swap
      · simp only [prodAt, Nat.reduceMul, bits32, nib, dite_eq_ite]
        rfl
    refine Finset.sum_congr rfl fun q _ => ?_
    simp only [prodAt, Nat.mul_zero, Nat.zero_add, bits32, nib, dite_eq_ite]
    rfl
  pointwise [k0_pay1, k0_pay109]
  split
  · rename_i hn
    rcases Nat.mod_two_eq_zero_or_one n.val with e | e
    · refine (sum_cols_even _ _ n.val hn ⟨n.val / 2, by omega⟩ (by simp only; omega)).trans ((hp _ _).trans ?_)
      simp only [e, Nat.mul_zero, Nat.zero_add]
    · refine (sum_cols_odd _ _ n.val hn ⟨n.val / 2, by omega⟩ (by simp only; omega)).trans ((hp _ _).trans ?_)
      simp only [e, Nat.mul_one]
  · rename_i hn
    have hj : (⟨128 + (n.val - 256) / 2, by omega⟩ : Fin 256) = ⟨n.val / 2, by omega⟩ := Fin.ext (by simp only; omega)
    rcases Nat.mod_two_eq_zero_or_one n.val with e | e
    · refine (sum_cols_even _ _ (n.val - 256) (by omega) ⟨(n.val - 256) / 2, by omega⟩ (by simp only; omega)).trans ((hp _ _).trans ?_)
      simp only [e, Nat.mul_zero, Nat.zero_add, hj]
    · refine (sum_cols_odd _ _ (n.val - 256) (by omega) ⟨(n.val - 256) / 2, by omega⟩ (by simp only; omega)).trans ((hp _ _).trans ?_)
      simp only [e, Nat.mul_one, hj]

end Cert.KernelIdeal.Hand
end
-- ==== Proof.Scales.lean ====
/-
  The scales after the permutation product: the even columns and the odd ones.
-/
module
public import proofs.«01_k».proof.Proof.IdealFrame
public import Idealize.ShloMosaic.Lib.Pipeline.ValueKit
public import proofs.«01_k».proof.Proof.Onehot
@[expose] public section
set_option maxRecDepth 16384
noncomputable section
namespace Cert.KernelIdeal.Hand
open Cert.KernelIdeal Cert.KernelIdeal.Gen Cert.Hand
open Idealize.ShloMosaic Idealize.ShloMosaic.TcCoe

/-- The scales of the even columns: column `j` of the first half is column `2 j` of the block. -/
theorem lo_at (i : grid0.Coords) (v : Vec Ideal S560x512 .fp8e4m3) (b : Fin 560) (j : Fin 256)
    (h : 512 * (i 0).val + 2 * j.val < 20352) : k0_pay6 i v (ix2 b j) = v (ix2 b ⟨2 * j.val, by omega⟩) := by
  pointwise [k0_pay6, k0_pay4, k0_pay5, k0_pay2, k0_pay3]
  split
  · rename_i hj
    refine (sum_rows _ j.val (by omega) ⟨2 * j.val, by omega⟩ (by unfold permRow; rw [if_pos hj])).trans ?_
    exact mask_in _ _ h _ _
  · rename_i hj
    refine (sum_rows _ (j.val - 128) (by omega) ⟨2 * (j.val - 128), by omega⟩ (by unfold permRow; rw [if_pos (by omega)])).trans ?_
    refine (mask_in _ (256 + 2 * (j.val - 128)) (by omega) _ _).trans ?_
    exact congrArg (fun z => v (ix2 b z)) (Fin.ext (by change 256 + 2 * (j.val - 128) = 2 * j.val; omega))

/-- The scales of the odd columns: column `j` of the second half is column `2 j + 1` of the block. -/
theorem hi_at (i : grid0.Coords) (v : Vec Ideal S560x512 .fp8e4m3) (b : Fin 560) (j : Fin 256)
    (h : 512 * (i 0).val + (2 * j.val + 1) < 20352) : k0_pay7 i v (ix2 b j) = v (ix2 b ⟨2 * j.val + 1, by omega⟩) := by
  pointwise [k0_pay7, k0_pay4, k0_pay5, k0_pay2, k0_pay3]
  split
  · rename_i hj
    refine (sum_rows _ (128 + j.val) (by omega) ⟨2 * j.val + 1, by omega⟩ (by unfold permRow; rw [if_neg (by omega)]; simp only; omega)).trans ?_
    exact mask_in _ _ h _ _
  · rename_i hj
    refine (sum_rows _ (128 + (j.val - 128)) (by omega) ⟨2 * (j.val - 128) + 1, by omega⟩ (by unfold permRow; rw [if_neg (by omega)]; simp only; omega)).trans ?_
    refine (mask_in _ (256 + (2 * (j.val - 128) + 1)) (by omega) _ _).trans ?_
    exact congrArg (fun z => v (ix2 b z)) (Fin.ext (by change 256 + (2 * (j.val - 128) + 1) = 2 * j.val + 1; omega))

end Cert.KernelIdeal.Hand
end
-- ==== Proof.TileSum.lean ====
/-
  The accumulator as one sum over the contraction, and that sum as the reference's.
-/
module
public import proofs.«01_k».proof.Proof.Chunk
public import proofs.«01_k».proof.Proof.Scales
@[expose] public section
set_option maxRecDepth 16384
noncomputable section
namespace Cert.KernelIdeal.Hand
open Cert.KernelIdeal Cert.KernelIdeal.Gen Cert.Hand
open Idealize.ShloMosaic Idealize.ShloMosaic.TcCoe

/-- One product of the contraction over the whole spread row. -/
def termAt (lo hi : FVec Ideal S560x256 .bf16) (w : Vec Ideal S256x8960 .i8) (x : Vec Ideal S48x17920 .bf16)
    (r : Fin 48) (j : Fin 256) (k : Fin 17920) : EReal :=
  x (ix2 r k) * (dec (nib (k.val % 2) (w (ix2 j ⟨k.val / 2, by omega⟩))) *
    if k.val % 2 = 0 then lo (ix2 ⟨k.val / 32, by omega⟩ j) else hi (ix2 ⟨k.val / 32, by omega⟩ j))

/-- A chunk's product is the whole row's product at the chunk's place. -/
theorem prodAt_eq (lo hi : FVec Ideal S560x256 .bf16) (w : Vec Ideal S256x8960 .i8) (x : Vec Ideal S48x17920 .bf16)
    (r : Fin 48) (j : Fin 256) (kc : Fin 35) (q : Fin 512) :
    prodAt lo hi w x r j kc q = termAt lo hi w x r j ⟨kc.val * 512 + q.val, by omega⟩ := by
  have e1 : (⟨512 * kc.val + q.val, by omega⟩ : Fin 17920) = ⟨kc.val * 512 + q.val, by omega⟩ := Fin.ext (by simp only; omega)
  have e2 : q.val % 2 = (kc.val * 512 + q.val) % 2 := by omega
  have e3 : (⟨256 * kc.val + q.val / 2, by omega⟩ : Fin 8960) = ⟨(kc.val * 512 + q.val) / 2, by omega⟩ := Fin.ext (by simp only; omega)
  have e4 : (q.val / 32 * 2 + q.val % 2) % 2 = (kc.val * 512 + q.val) % 2 := by omega
  have e5 : (⟨16 * kc.val + (q.val / 32 * 2 + q.val % 2) / 2, by omega⟩ : Fin 560) = ⟨(kc.val * 512 + q.val) / 32, by omega⟩ :=
    Fin.ext (by simp only; omega)
  unfold prodAt termAt
  rw [dec32_nib, e1, e3, e4, e5, e2]

/-- The accumulator is one sum over the row dimension, term by term the even and the odd place of the spread row. -/
theorem accAt_eq (lo hi : FVec Ideal S560x256 .bf16) (w : Vec Ideal S256x8960 .i8) (x : Vec Ideal S48x17920 .bf16) (g : EReal)
    (r : Fin 48) (j : Fin 256) :
    accAt lo hi w x g r j = (∑ p : Fin 8960, (termAt lo hi w x r j ⟨p.val * 2, by omega⟩ + termAt lo hi w x r j ⟨p.val * 2 + 1, by omega⟩)) * g := by
  unfold accAt
  refine congrArg (· * g) ?_
  simp only [prodAt_eq]
  rw [← Fin.sum_univ_tiles 35 512 rfl (termAt lo hi w x r j), Fin.sum_univ_tiles 8960 2 rfl (termAt lo hi w x r j)]
  refine Finset.sum_congr rfl fun p _ => ?_
  rw [Fin.sum_univ_two]
  rfl

/-- The accumulator's entry is the reference's entry, when the staged blocks are the arrays' at this block: the spread rows
    hold `X` at their own parity and zero at the other, `w` holds the packed column and `v` the scales' column. -/
theorem accAt_ref (i : grid0.Coords) (w : Vec Ideal S256x8960 .i8) (x : Vec Ideal S48x17920 .bf16) (v : Vec Ideal S560x512 .fp8e4m3)
    (g : EReal) (X : Fin 24 → Fin 8960 → EReal) (W : Fin 8960 → Fin 10176 → BitVec 8) (S : Fin 560 → Fin 20352 → EReal)
    (a : Fin 24) (n : Fin 512) (hn : 512 * (i 0).val + n.val < 20352)
    (hx : ∀ (h : Fin 2) (p : Fin 8960) (h' : Fin 2),
      x (ix2 ⟨24 * h.val + a.val, by omega⟩ ⟨p.val * 2 + h'.val, by omega⟩) = if h' = h then X a p else 0)
    (hw : ∀ p : Fin 8960, w (ix2 ⟨n.val / 2, by omega⟩ p) = W p ⟨(512 * (i 0).val + n.val) / 2, by omega⟩)
    (hs : ∀ b : Fin 560, v (ix2 b n) = S b ⟨512 * (i 0).val + n.val, hn⟩) :
    accAt (k0_pay6 i v) (k0_pay7 i v) w x g ⟨24 * (n.val % 2) + a.val, by omega⟩ ⟨n.val / 2, by omega⟩ =
      refAt X W S g a ⟨512 * (i 0).val + n.val, hn⟩ := by
  rw [accAt_eq]
  unfold refAt
  refine congrArg (· * g) (Finset.sum_congr rfl fun p _ => ?_)
  have hm : (512 * (i 0).val + n.val) % 2 = n.val % 2 := by omega
  have h0 := hx ⟨n.val % 2, by omega⟩ p 0
  have h1 := hx ⟨n.val % 2, by omega⟩ p 1
  have b0 : (⟨p.val * 2 / 32, by omega⟩ : Fin 560) = ⟨p.val / 16, by omega⟩ := Fin.ext (by simp only; omega)
  have b1 : (⟨(p.val * 2 + 1) / 32, by omega⟩ : Fin 560) = ⟨p.val / 16, by omega⟩ := Fin.ext (by simp only; omega)
  have p0 : (⟨p.val * 2 / 2, by omega⟩ : Fin 8960) = p := Fin.ext (by simp only; omega)
  have p1 : (⟨(p.val * 2 + 1) / 2, by omega⟩ : Fin 8960) = p := Fin.ext (by simp only; omega)
  have m0 : p.val * 2 % 2 = 0 := by omega
  have m1 : (p.val * 2 + 1) % 2 = 1 := by omega
  unfold termAt
  simp only [hm]
  rw [p0, p1, b0, b1, m0, m1, if_pos rfl, if_neg (by omega), hw p]
  rcases Nat.mod_two_eq_zero_or_one n.val with e | e
  · have h0' : x (ix2 ⟨24 * (n.val % 2) + a.val, by omega⟩ ⟨p.val * 2, by omega⟩) = X a p :=
      h0.trans (if_pos (Fin.ext e.symm))
    have h1' : x (ix2 ⟨24 * (n.val % 2) + a.val, by omega⟩ ⟨p.val * 2 + 1, by omega⟩) = 0 :=
      h1.trans (if_neg fun h => by have := congrArg Fin.val h; simp only [e] at this; exact absurd this (by decide))
    rw [h0', h1', zero_mul, add_zero, lo_at i v _ _ (by simp only; omega), e]
    have hc : (⟨2 * (n.val / 2), by omega⟩ : Fin 512) = n := Fin.ext (by simp only; omega)
    rw [hc, hs]
  · have h0' : x (ix2 ⟨24 * (n.val % 2) + a.val, by omega⟩ ⟨p.val * 2, by omega⟩) = 0 :=
      h0.trans (if_neg fun h => by have := congrArg Fin.val h; simp only [e] at this; exact absurd this (by decide))
    have h1' : x (ix2 ⟨24 * (n.val % 2) + a.val, by omega⟩ ⟨p.val * 2 + 1, by omega⟩) = X a p :=
      h1.trans (if_pos (Fin.ext e.symm))
    rw [h0', h1', zero_mul, zero_add, hi_at i v _ _ (by simp only; omega), e]
    have hc : (⟨2 * (n.val / 2) + 1, by omega⟩ : Fin 512) = n := Fin.ext (by simp only; omega)
    rw [hc, hs]

end Cert.KernelIdeal.Hand
end
-- ==== Proof.Blocks.lean ====
/-
  What the staged blocks hold, in terms of the arguments' arrays.
-/
module
public import proofs.«01_k».proof.Proof.IdealFrame
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe
variable (m : (ℓ : Loc nD τ sig) → Buf (Elt Ideal) ℓ)

/-- Where each window's block lies at each point. -/
theorem idx : ∀ t : Fin cfg0.N, win0_0.index t = ![0, 0] ∧ win0_1.index t = ![t.val, 0] ∧ win0_2.index t = ![0, t.val]
    ∧ win0_3.index t = ![0, 0] ∧ win0_4.index t = ![0, t.val] :=
  (by decide +kernel : ∀ t : Fin grid0.N, _)
/-- The grid's coordinate at a point. -/
theorem coord : ∀ t : Fin cfg0.N, (grid0.coords t 0).val = t.val :=
  (by decide +kernel : ∀ t : Fin grid0.N, _)
/-- How much of each block lies inside its array. -/
theorem xsz : ∀ t : Fin cfg0.N, win0_1.xsize (grid0.coords t) = ![min 256 (10176 - 256 * t.val), 8960]
    ∧ win0_2.xsize (grid0.coords t) = ![560, min 512 (20352 - 512 * t.val)]
    ∧ win0_4.xsize (grid0.coords t) = ![24, min 512 (20352 - 512 * t.val)] :=
  (by decide +kernel : ∀ t : Fin grid0.N, _)

/-- The weights' buffer at a row inside the array: the packed column of the argument. -/
theorem wFill_at (c : Dev nD) (t : Fin cfg0.N) (d : S256x8960.Idx → Elt Ideal .i8) (j : Fin 256) (p : Fin 8960) (h : 256 * t.val + j.val < 10176) :
    wFill m c t d (ix2 j p) = m ((c : Thread nD τ).loc main_arg1) (ix2 p ⟨256 * t.val + j.val, h⟩) := by
  have hm : win0_1.moved (grid0.coords t) (ix2 j p) = true := by
    rw [Pipeline.Window.moved_iff, (xsz t).1]
    intro a
    fin_cases a
    · change j.val < min 256 (10176 - 256 * t.val); omega
    · change p.val < 8960; omega
  unfold wFill Pipeline.Window.fill
  rw [dif_pos hm]
  blk_simp [iblk, idx t]
  entry_read
  pointwise
  blk_ext [idx t]

/-- The scales' buffer at a column inside the array: the argument's column. -/
theorem sFill_at (c : Dev nD) (t : Fin cfg0.N) (d : S560x512.Idx → Elt Ideal .fp8e4m3) (b : Fin 560) (n : Fin 512) (h : 512 * t.val + n.val < 20352) :
    sFill m c t d (ix2 b n) = m ((c : Thread nD τ).loc main_arg2) (ix2 b ⟨512 * t.val + n.val, h⟩) := by
  have hm : win0_2.moved (grid0.coords t) (ix2 b n) = true := by
    rw [Pipeline.Window.moved_iff, (xsz t).2.1]
    intro a
    fin_cases a
    · change b.val < 560; omega
    · change n.val < min 512 (20352 - 512 * t.val); omega
  unfold sFill Pipeline.Window.fill
  rw [dif_pos hm]
  blk_simp [iblk, idx t]
  blk_ext [iblk, V, idx t]

/-- The scalar's block. -/
theorem iblk3 (c : Dev nD) (t : Fin cfg0.N) : iblk m c 3 t (ix2 0 0) = m ((c : Thread nD τ).loc main_arg3) ix0 := by
  blk_simp [iblk, idx t]
  entry_read
  pointwise

/-- The spread rows as the host forms them: the row interleaved with zeros, and zeros interleaved with the row. -/
def spread (x : FVec Ideal S24x1x8960 .bf16) : FVec Ideal S48x17920 .bf16 :=
  let z : FVec Ideal S24x8960x1 .bf16 := broadcastInDim S24x8960x1 ![0, 1] bcast_S24x8960_S24x8960x1_0_1
    (broadcastInDim S24x8960 ![] bcast_S_S24x8960 (constant (F := Ideal) S_ .bf16 0#16))
  let y : FVec Ideal S24x8960x1 .bf16 := broadcastInDim S24x8960x1 ![0, 1] bcast_S24x8960_S24x8960x1_0_1 (shapeCast S24x8960 x shapeCasts_S24x1x8960_S24x8960)
  concatenate S48x17920 0 [⟨S24x17920, shapeCast S24x17920 (concatenate S24x8960x2 2 [⟨S24x8960x1, y⟩, ⟨S24x8960x1, z⟩] concatenates_S24x8960x1_S24x8960x1_S24x8960x2_d2) shapeCasts_S24x8960x2_S24x17920⟩,
    ⟨S24x17920, shapeCast S24x17920 (concatenate S24x8960x2 2 [⟨S24x8960x1, z⟩, ⟨S24x8960x1, y⟩] concatenates_S24x8960x1_S24x8960x1_S24x8960x2_d2) shapeCasts_S24x8960x2_S24x17920⟩] concatenates_S24x17920_S24x17920_S48x17920_d0

/-- An entry of the spread rows: the row's entry at the places of the half's own parity, zero at the others. -/
theorem spread_at (x : FVec Ideal S24x1x8960 .bf16) (r : Fin 48) (k : Fin 17920) : spread x (ix2 r k) =
    if h : r.val < 24 then (if k.val % 2 < 1 then x (ix3 ⟨r.val, h⟩ 0 ⟨k.val / 2, by omega⟩) else 0)
    else if k.val % 2 < 1 then 0 else x (ix3 ⟨r.val - 24, by omega⟩ 0 ⟨k.val / 2, by omega⟩) := by
  pointwise [spread]
  rfl

/-- The same, the half and the parity named. -/
theorem spread_half (x : FVec Ideal S24x1x8960 .bf16) (a : Fin 24) (h : Fin 2) (p : Fin 8960) (h' : Fin 2) :
    spread x (ix2 ⟨24 * h.val + a.val, by omega⟩ ⟨p.val * 2 + h'.val, by omega⟩) = if h' = h then x (ix3 a 0 p) else 0 := by
  rw [spread_at]
  have hp : (⟨(p.val * 2 + h'.val) / 2, by omega⟩ : Fin 8960) = p := Fin.ext (by simp only; omega)
  have hm : (p.val * 2 + h'.val) % 2 = h'.val := by omega
  simp only [hp, hm]
  have ha : ∀ q, (⟨a.val, q⟩ : Fin 24) = a := fun _ => rfl
  fin_cases h <;> fin_cases h' <;> simp

/-- The host's line before the launch leaves the spread rows in the first operand. -/
theorem V_v10 (c : Dev nD) : V m c main_v10 = spread (m ((c : Thread nD τ).loc main_arg0)) := by
  rfl

/-- The spread rows' block is the whole operand. -/
theorem iblk0 (c : Dev nD) (t : Fin cfg0.N) (r : Fin 48) (k : Fin 17920) :
    iblk m c 0 t (ix2 r k) = spread (m ((c : Thread nD τ).loc main_arg0)) (ix2 r k) := by
  rw [← V_v10]
  blk_simp [iblk, idx t]
  blk_ext [idx t]

end Cert.KernelIdeal.Hand
end
-- ==== Proof.Exact.lean ====
/-
  The launch of `KernelIdeal` with the result named: every entry of the result array is `refAt` of the arguments. The
  part of the last block past the array's end is arbitrary, and nothing of it reaches the array.
-/
module
public import proofs.«01_k».proof.Proof.Tile
public import proofs.«01_k».proof.Proof.TileSum
public import proofs.«01_k».proof.Proof.Blocks
@[expose] public section
set_option maxRecDepth 16384
noncomputable section
namespace Cert.KernelIdeal.Hand
open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The kernel's result as a function of its four arguments. -/
def kerArr (X : FVec Ideal S24x1x8960 .bf16) (W : IVec S8960x10176 8) (S : FVec Ideal S560x20352 .fp8e4m3)
    (g : FVec Ideal S_ .f32) : FVec Ideal S24x20352 .bf16 := fun y =>
  refAt (fun i p => X (ix3 i 0 p)) (fun p j => W (ix2 p j)) (fun b n => S (ix2 b n)) (g ix0) (y 0) (y 1)

/-- … of the arguments' contents at launch. -/
abbrev kerOut (c : Dev nD) : FVec Ideal S24x20352 .bf16 :=
  kerArr (m ((c : Thread nD τ).loc main_arg0)) (m ((c : Thread nD τ).loc main_arg1))
    (m ((c : Thread nD τ).loc main_arg2)) (m ((c : Thread nD τ).loc main_arg3))

/-- What is said of the result's buffer at a point: the result's column inside the array, zero past it. -/
def outBlk (c : Dev nD) (t : Fin cfg0.N) : S24x512.Idx → Elt Ideal .bf16 := fun y =>
  if h : 512 * t.val + (y 1).val < 20352 then kerOut m c (ix2 (y 0) ⟨512 * t.val + (y 1).val, h⟩) else (0 : EReal)

/-- The body's output at a column inside the array, whatever the buffers hold past the arrays' ends. -/
theorem pieces_at (c : Dev nD) (t : Fin cfg0.N) (d1 : S256x8960.Idx → Elt Ideal .i8) (d2 : S560x512.Idx → Elt Ideal .fp8e4m3)
    (a : Fin 24) (n : Fin 512) (h : 512 * t.val + n.val < 20352) :
    View.canon (pieces m c t d1 d2) (ix2 a n) = kerOut m c (ix2 a ⟨512 * t.val + n.val, h⟩) := by
  unfold pieces
  rw [out_at]
  have hc := coord t
  have hn : 512 * (grid0.coords t 0).val + n.val < 20352 := by rw [hc]; exact h
  refine (accAt_ref (grid0.coords t) _ _ _ _
    (fun i p => m ((c : Thread nD τ).loc main_arg0) (ix3 i 0 p)) (fun p j => m ((c : Thread nD τ).loc main_arg1) (ix2 p j))
    (fun b n => m ((c : Thread nD τ).loc main_arg2) (ix2 b n)) a n hn ?_ ?_ ?_).trans ?_
  · intro h p h'
    exact (iblk0 m c t _ _).trans (spread_half _ a h p h')
  · intro p
    refine (wFill_at m c t d1 _ p (by simp only; omega)).trans ?_
    refine congrArg (fun z => m ((c : Thread nD τ).loc main_arg1) (ix2 p z)) (Fin.ext ?_)
    simp only [hc]; omega
  · intro b
    refine (sFill_at m c t d2 b n h).trans ?_
    refine congrArg (fun z => m ((c : Thread nD τ).loc main_arg2) (ix2 b z)) (Fin.ext ?_)
    simp only [hc]
  · unfold kerOut kerArr
    rw [iblk3]
    simp only [hc]
    rfl

/-- Read back, the result's buffer agrees with `outBlk` inside the array. -/
theorem read_cut (c : Dev nD) (t : Fin cfg0.N) (d1 : S256x8960.Idx → Elt Ideal .i8) (d2 : S560x512.Idx → Elt Ideal .fp8e4m3)
    (f : (ms0_4 t).view.ty.Contents (Elt Ideal)) :
    win0_4.cut (grid0.coords t) ((ms0_4 t).view.read (Elt Ideal) ((ms0_4 t).view.writes (Elt Ideal) f (pieces m c t d1 d2))) =
      win0_4.cut (grid0.coords t) (outBlk m c t) := by
  rw [View.read_writes_eq_canon _ _ _ fun y => View.cover_of_tiledL _ S24x512.size (by sl_kernel_rfl) y]
  funext y
  have h1 : (y 1).val < win0_4.xsize (grid0.coords t) 1 := (y 1).isLt
  rw [(xsz t).2.2] at h1
  have h : 512 * t.val + (y 1).val < 20352 := by
    have h1' : (y 1).val < min 512 (20352 - 512 * t.val) := h1
    omega
  rw [Pipeline.Window.cut_apply, Pipeline.Window.cut_apply]
  generalize hz : win0_4.xinj (grid0.coords t) y = z
  have hz1 : (z 1).val = (y 1).val := by rw [← hz]
  have hz' : 512 * t.val + (z 1).val < 20352 := by rw [hz1]; exact h
  unfold outBlk
  rw [dif_pos hz']
  exact (congrArg (View.canon (pieces m c t d1 d2)) (eq_ix2 z)).trans (pieces_at m c t d1 d2 (z 0) (z 1) hz')

/-! ## The launch -/

/-- What the body is called with at point `t`. -/
def ePre (c : Dev nD) (t : Fin cfg0.N) : sProp 𝕄 :=
  iprop((dats m (outBlk m) 0 c).Φ t.castSucc ∗ (dats m (outBlk m) 0 c).owesAt () t.castSucc
    ∗ (∃ d, owns (c : Thread nD τ) (ms0_0 t) fullShare ((dats m (outBlk m) 0 c).before 0 t d))
    ∗ (∃ d, owns (c : Thread nD τ) (ms0_1 t) fullShare ((dats m (outBlk m) 0 c).before 1 t d))
    ∗ (∃ d, owns (c : Thread nD τ) (ms0_2 t) fullShare ((dats m (outBlk m) 0 c).before 2 t d))
    ∗ (∃ d, owns (c : Thread nD τ) (ms0_3 t) fullShare ((dats m (outBlk m) 0 c).before 3 t d))
    ∗ (∃ d, owns (c : Thread nD τ) (ms0_4 t) fullShare ((dats m (outBlk m) 0 c).before 4 t d)))
/-- What the body returns at point `t`: the result's buffer agrees with `outBlk` inside the array. -/
def ePost (c : Dev nD) (t : Fin cfg0.N) : sProp 𝕄 :=
  iprop((dats m (outBlk m) 0 c).Φ t.succ ∗ (dats m (outBlk m) 0 c).owesAt () t.succ
    ∗ owns (c : Thread nD τ) (ms0_0 t) fullShare ((dats m (outBlk m) 0 c).after 0 t)
    ∗ (∃ d, owns (c : Thread nD τ) (ms0_1 t) fullShare (win0_1.fill (grid0.coords t) d (win0_1.cut (grid0.coords t) ((dats m (outBlk m) 0 c).after 1 t))))
    ∗ (∃ d, owns (c : Thread nD τ) (ms0_2 t) fullShare (win0_2.fill (grid0.coords t) d (win0_2.cut (grid0.coords t) ((dats m (outBlk m) 0 c).after 2 t))))
    ∗ owns (c : Thread nD τ) (ms0_3 t) fullShare ((dats m (outBlk m) 0 c).after 3 t)
    ∗ (∃ d, owns (c : Thread nD τ) (ms0_4 t) fullShare (win0_4.fill (grid0.coords t) d (win0_4.cut (grid0.coords t) ((dats m (outBlk m) 0 c).after 4 t)))))

/-- The body at a point. -/
theorem e_sound (c : Dev nD) (t : Fin cfg0.N) :
    ePre m c t ⊢ wp Idealize.ShloMosaic.frame (wpE (defs₀ (F := Ideal)) Variants.none c none) Set.univ (bodyAt0 t) (fun _ => ePost m c t) := by
  unfold ePre ePost
  simp only [before0_0, before0_1, before0_2, before0_3]
  rw [show (dats m (outBlk m) 0 c).Φ t.succ = (dats m (outBlk m) 0 c).Φ t.castSucc from rfl,
    show (dats m (outBlk m) 0 c).owesAt () t.succ = (dats m (outBlk m) 0 c).owesAt () t.castSucc from rfl,
    after0_0, after0_1, after0_2, after0_3, after0_4, cut_wFill, cut_sFill]
  iintro ⟨HΦ, Ho, ⟨%d0, H0⟩, ⟨%d1, H1⟩, ⟨%d2, H2⟩, ⟨%d3, H3⟩, ⟨%d4, H4⟩⟩
  iapply (body_at m c t d1 d2 _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexists d1; iexact H1
  isplitl [H2]; · iexists d2; iexact H2
  isplitl [H3]; · iexact H3
  iexists ((ms0_4 t).view.read (Elt Ideal) ((ms0_4 t).view.writes (Elt Ideal) e4 (pieces m c t d1 d2)))
  rw [← read_cut m c t d1 d2 e4, Pipeline.Window.fill_cut]
  unfold owns; iexists _; isplitr; swap; · iexact H4
  ipureintro; rfl

/-- The library's body obligation, no window forgotten. -/
theorem e_obligation (c : Dev nD) :
    BodyObligationLoose (dats m (outBlk m) 0 c) (defs₀ (F := Ideal)) Variants.none () Set.univ (fun _ => false) := fun t => by
  rw [bigSep_W0, bigSep_W0, defs₀_row]
  exact triple_restated (e_sound m c t) rfl .rfl fun _ => .rfl

set_option backward.isDefEq.respectTransparency.types false in
/-- The launch: it terminates, every array as computed and every semaphore counter at zero. -/
theorem e_run :
    θ_run defs (onTc (τ := τ) (main (F := Ideal))) (s₀ m ρ)
      (Pipeline.FramePost cfgs (dats m (outBlk m)) 0 (V m)) :=
  Pipeline.θ_run_frame (Q' := _) cfgs (dats m (outBlk m)) (0 : Fin 1) launch0 defs₀ Variants.none m ρ main
    (hbody := e_obligation m) (hshare := fun c => (dats m (outBlk m) 0 c).share_full fun _ => rfl)
    (howed := fun _ _ => rfl) (V := V m) (hmain := hmain m Variants.none) (hA := A_eq m (outBlk m)) (hΦ := fun _ _ => rfl)

/-- The result array after the launch. -/
theorem final (c : Dev nD) : (dats m (outBlk m) 0 c).arrAt 4 (cfgs 0).N = kerOut m c := by
  refine (dats m (outBlk m) 0 c).arrAt_eq_of_covers 4 _ (by decide +kernel) fun t _ y => ?_
  blk_simp
  rw [after0_4]
  have h0 : (y 0).val < 24 := lt_of_lt_of_eq (y 0).isLt (congrFun (xsz t).2.2 0)
  have h1 : (y 1).val < min 512 (20352 - 512 * t.val) := lt_of_lt_of_eq (y 1).isLt (congrFun (xsz t).2.2 1)
  unfold outBlk
  have h : 512 * t.val + (y 1).val < 20352 := by omega
  refine (dif_pos h).trans (congrArg (kerOut m c) ?_)
  blk_ext [idx t]

/-- The run with the result named: the result array holds `kerOut`, the four arguments what they held. -/
theorem value : θ_run defs (onTc (τ := τ) (main (F := Ideal))) ⟨m, fun _ => 0, ρ⟩ (fun r => ∀ c : Dev nD,
      r.2.mem ((c.tc : Thread nD τ).loc main_v13) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m (outBlk m) 0 c).arrAt_in 2 rfl _).trans ((A_eq m (outBlk m) c 2).trans (V_main_arg2 m c))),
      ((h c).2 main_arg3 (Pipeline.mem_restRefs_of main_arg3 (by decide) (by decide))).trans (V_main_arg3 m c)⟩) (e_run m ρ)

end Cert.KernelIdeal.Hand
end
-- ==== Proof.RefValue.lean ====
/-
  What the reference's payload holds: at every entry the formula of Spec.lean over the loaded arrays.
-/
module
public import proofs.«01_k».proof.Proof.Gen.ReferenceIdeal.Skeleton
public import proofs.«01_k».proof.Proof.Spec
@[expose] public section
set_option maxRecDepth 16384
noncomputable section
namespace Cert.ReferenceIdeal.Hand
open Cert.ReferenceIdeal Cert.ReferenceIdeal.Gen Cert.Hand
open Idealize.ShloMosaic Idealize.ShloMosaic.TcCoe Idealize.SL.Sem

/-- The reference's payload at an entry is `refAt` of what it loaded. -/
theorem pay_apply (s : Vec Ideal S560x20352 .fp8e4m3) (w : Vec Ideal S8960x10176 .i8) (x : Vec Ideal S24x8960 .bf16)
    (g : Elt Ideal .f32) (i : Fin 24) (n : Fin 20352) :
    k0_pay6 (k0_pay3 s w) (k0_pay4 w) (k0_pay5 s) 7#32 x g (ix2 i n)
      = refAt (fun i p => x (ix2 i p)) (fun p j => w (ix2 p j)) (fun b n => s (ix2 b n)) g i n := by
  pointwise [k0_pay6, k0_pay5, k0_pay4, k0_pay3, k0_pay2, k0_pay1]
  unfold refAt
  by_cases h : n.val % 2 < 1
  · have e : ∀ hn, (⟨n.val / 2 * 2, hn⟩ : Fin 20352) = n := fun _ => Fin.ext (by show n.val / 2 * 2 = n.val; omega)
    simp only [dif_pos h, e, nib, if_pos h, dec, bits16]
  · have e : ∀ hn, (⟨n.val / 2 * 2 + 1, hn⟩ : Fin 20352) = n := fun _ => Fin.ext (by show n.val / 2 * 2 + 1 = n.val; omega)
    simp only [dif_neg h, e, nib, if_neg h, dec, bits16]

end Cert.ReferenceIdeal.Hand
end
-- ==== Proof.RefArray.lean ====
/-
  What the reference's result array holds after its run: `refAt` of the argument arrays at every entry.
-/
module
public import proofs.«01_k».proof.Proof.Gen.ReferenceIdeal.Frame
public import proofs.«01_k».proof.Proof.RefValue
public import Idealize.ShloMosaic.Lib.Pipeline.ValueKit
@[expose] public section
set_option maxRecDepth 16384
noncomputable section
namespace Cert.ReferenceIdeal.Hand
open Cert.ReferenceIdeal Cert.ReferenceIdeal.Gen Cert.Hand
open Idealize.ShloMosaic Idealize.ShloMosaic.TcCoe Idealize.SL.Sem
open Idealize.ShloMosaic.Pipeline (Dat)
variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's result as a function of its four arguments. -/
def refArr (X : FVec Ideal S24x1x8960 .bf16) (W : IVec S8960x10176 8) (S : FVec Ideal S560x20352 .fp8e4m3)
    (g : FVec Ideal S_ .f32) : FVec Ideal S24x20352 .bf16 := fun y =>
  refAt (fun i p => X (ix3 i 0 p)) (fun p j => W (ix2 p j)) (fun b n => S (ix2 b n)) (g ix0) (y 0) (y 1)

/-- What the body leaves in the result's buffer is the payload of what it loaded. -/
theorem out_eq (c : Dev nD) (arg0 : Memref sig .tc .vmem S24x8960 .bf16) (harg0 : arg0.IsWhole) (arg1 : Memref sig .tc .vmem S8960x10176 .i8) (harg1 : arg1.IsWhole) (arg2 : Memref sig .tc .vmem S560x20352 .fp8e4m3) (harg2 : arg2.IsWhole) (arg3 : Memref sig .tc .smem S1x1 .f32) (harg3 : arg3.IsWhole) (arg4 : Memref sig .tc .vmem S24x20352 .bf16) (harg4 : arg4.IsWhole)
    (x0 : Vec Ideal S24x8960 .bf16) (x1 : Vec Ideal S8960x10176 .i8) (x2 : Vec Ideal S560x20352 .fp8e4m3) (x3 : Vec Ideal S1x1 .f32) :
    out0_A_4 c arg0 harg0 arg1 harg1 arg2 harg2 arg3 harg3 arg4 harg4 x0 x1 x2 x3
      = k0_pay6 (k0_pay3 x2 x1) (k0_pay4 x1) (k0_pay5 x2) 7#32 x0 (x3 (ix2 0 0)) := by
  unfold out0_A_4
  frame_out
  congr 1
  pointwise

/-- What the input blocks hold. -/
theorem iblk0 (c : Dev nD) (i : Fin 24) (p : Fin 8960) : iblk m c 0 t0_0 (ix2 i p) = m ((c : Thread nD τ).loc main_arg0) (ix3 i 0 p) := by
  blk_simp [iblk, idx t0_0]
  entry_read
  pointwise
  blk_ext [idx t0_0]
/-- The same for the argument 1. -/
theorem iblk1 (c : Dev nD) : iblk m c 1 t0_0 = m ((c : Thread nD τ).loc main_arg1) := by
  blk_ext! [iblk, V, idx t0_0]
/-- The same for the argument 2. -/
theorem iblk2 (c : Dev nD) : iblk m c 2 t0_0 = m ((c : Thread nD τ).loc main_arg2) := by
  blk_ext! [iblk, V, idx t0_0]
/-- The same for the argument 3. -/
theorem iblk3 (c : Dev nD) : iblk m c 3 t0_0 (ix2 0 0) = m ((c : Thread nD τ).loc main_arg3) ix0 := by
  blk_simp [iblk, idx t0_0]
  entry_read
  pointwise

/-- The result array. -/
theorem final (c : Dev nD) : (dats m 0 c).arrAt 4 (cfgs 0).N
    = refArr (m ((c : Thread nD τ).loc main_arg0)) (m ((c : Thread nD τ).loc main_arg1))
        (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  rw [out_eq]
  idx_vars j
  refine (pay_apply _ _ _ _ _ _).trans ?_
  unfold refArr
  rw [iblk1, iblk2, iblk3]
  simp only [iblk0]
  rfl

/-- The run with the result named: the result array holds `refArr` of the arguments, the four arguments what they held. -/
theorem value (ρ : Dev nD → PrngReg) : θ_run defs (onTc (τ := τ) (main (F := Ideal))) ⟨m, fun _ => 0, ρ⟩ (fun r => ∀ c : Dev nD,
      r.2.mem ((c.tc : Thread nD τ).loc main_v2) = refArr (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final m c), h.2.1 c⟩) (θ_run_and (run_main m ρ) (frame m ρ))

end Cert.ReferenceIdeal.Hand
end
-- ==== Proof.lean ====
/-
  The certificate's claims, assembled: the three frames, the idealization's rewrites and the value claim.
-/
module

public import proofs.«01_k».proof.Defs
public import proofs.«01_k».proof.Proof.KernelFrame
public import proofs.«01_k».proof.Proof.IdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Exact
public import proofs.«01_k».proof.Proof.RefArray
public import Idealize.ShloMosaic.Lib.Bf16Pair
public import Idealize.ShloMosaic.Adequacy
public import Idealize.ShloMosaic.Init

@[expose] public section

noncomputable section

namespace Cert.Proof

open Idealize.ShloMosaic Idealize.SL.Sem

/-- The idealization's rewrites: the sixteen-bit halves of a scale pair and the pair read as two bf16 rows. -/
theorem preserves : Cert.preserves_Kernel_KernelIdeal :=
  ⟨IdealRules.bf16_pair.halfStatement _, IdealRules.bf16_pair.statement _ _⟩

/-- The value claim: both programs end with the same array, entry by entry the sum `refAt` spells over the arguments. -/
theorem algebraic : Cert.algebraic_KernelIdeal_ReferenceIdeal := by
  intro m g m' g' _ hagree
  refine ⟨fun c => Cert.KernelIdeal.Hand.kerOut m c, Cert.KernelIdeal.Hand.value m g, ?_⟩
  refine (θ_run _ _ _).mono (fun _ h c => ⟨(h c).1.trans ?_, (h c).2⟩) (Cert.ReferenceIdeal.Hand.value m' g')
  obtain ⟨e0, e1, e2, e3⟩ := hagree c
  rw [e0, e1, e2, e3]
  rfl

/-- Every claim of the certificate. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
